-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xC2D20000#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v18_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v18_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x1024x512 : Shape := ⟨3, ![2, 1024, 512]⟩
abbrev S2x1024x1024 : Shape := ⟨3, ![2, 1024, 1024]⟩
abbrev S512x512 : Shape := ⟨2, ![512, 512]⟩
abbrev S512 : Shape := ⟨1, ![512]⟩
abbrev S8x128 : Shape := ⟨2, ![8, 128]⟩
abbrev S_ : Shape := ⟨0, ![]⟩

class Facts : Prop where
  bcast_S_S2x1024x512 : S_.BroadcastsInDim S2x1024x512 (![] : Fin 0 → Fin S2x1024x512.rank)
  reducesTo_S2x1024x512_S_d0_1_2 : S2x1024x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S8x128 : S_.BroadcastsInDim S8x128 (![] : Fin 0 → Fin S8x128.rank)
  reducesTo_S8x128_S_d0_1 : S8x128.ReducesTo [0, 1] S_

variable [Facts]

def fn_part1 {F : FTy → Type} [FloatOps F] (main_v13 : IVec S_ 1) (main_v16 : IVec S8x128 1) : IVec S_ 1 :=
  let main_c_5 : IVec S_ 1 := constantI S_ 1 1#1
  let main_v17 : IVec S_ 1 := (fun x v => Host.reduce IntOp.andi x v reducesTo_S8x128_S_d0_1 h_S_) main_v16 main_c_5
  let main_v18 : IVec S_ 1 := andi main_v13 main_v17
  main_v18

def fn {F : FTy → Type} [FloatOps F] (main_arg0 : FVec F S2x1024x512 .f32) (main_arg1 : IVec S2x1024x1024 32) (main_arg2 : FVec F S512x512 .f32) (main_arg3 : FVec F S512 .f32) (main_arg4 : FVec F S8x128 .f32) : IVec S_ 1 :=
  let main_v0 : FVec F S2x1024x512 .f32 := Host.absf main_arg0
  let main_cst : FVec F S_ .f32 := constant S_ .f32 0x7F800000#32
  let main_v1 : FVec F S2x1024x512 .f32 := broadcastInDim S2x1024x512 ![] bcast_S_S2x1024x512 main_cst
  let main_v2 : IVec S2x1024x512 1 := cmpf .olt main_v0 main_v1
  let main_c : IVec S_ 1 := constantI S_ 1 1#1
  let main_v3 : IVec S_ 1 := (fun x v => Host.reduce IntOp.andi x v reducesTo_S2x1024x512_S_d0_1_2 h_S_) main_v2 main_c
  let main_v4 : FVec F S512x512 .f32 := Host.absf main_arg2
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S8x128 .f32 := Host.absf main_arg4
  let main_cst_4 : FVec F S_ .f32 := constant S_ .f32 0x7F800000#32
  let main_v15 : FVec F S8x128 .f32 := broadcastInDim S8x128 ![] bcast_S_S8x128 main_cst_4
  let main_v16 : IVec S8x128 1 := cmpf .olt main_v14 main_v15
  fn_part1 (F := F) main_v13 main_v16
-- ==== Kernel.lean ====
abbrev S2x1024x512 : Shape := ⟨3, ![2, 1024, 512]⟩
abbrev S2x1024x1024 : Shape := ⟨3, ![2, 1024, 1024]⟩
abbrev S512x512 : Shape := ⟨2, ![512, 512]⟩
abbrev S512 : Shape := ⟨1, ![512]⟩
abbrev S8x128 : Shape := ⟨2, ![8, 128]⟩
abbrev S8x64 : Shape := ⟨2, ![8, 64]⟩
abbrev S512x1 : Shape := ⟨2, ![512, 1]⟩
abbrev S8x8 : Shape := ⟨2, ![8, 8]⟩
abbrev S_ : Shape := ⟨0, ![]⟩
abbrev S8x64x8 : Shape := ⟨3, ![8, 64, 8]⟩
abbrev S512x8 : Shape := ⟨2, ![512, 8]⟩
abbrev S512x16 : Shape := ⟨2, ![512, 16]⟩
abbrev S1x512 : Shape := ⟨2, ![1, 512]⟩
abbrev S2x8x1024x1024 : Shape := ⟨4, ![2, 8, 1024, 1024]⟩
abbrev S1x1024x512 : Shape := ⟨3, ![1, 1024, 512]⟩
abbrev S1x256x1024 : Shape := ⟨3, ![1, 256, 1024]⟩
abbrev S1x256x512 : Shape := ⟨3, ![1, 256, 512]⟩
abbrev S1x8x256x1024 : Shape := ⟨4, ![1, 8, 256, 1024]⟩
abbrev S1024x512 : Shape := ⟨2, ![1024, 512]⟩
abbrev S1024x8 : Shape := ⟨2, ![1024, 8]⟩
abbrev S8x1024 : Shape := ⟨2, ![8, 1024]⟩
abbrev S256x1024 : Shape := ⟨2, ![256, 1024]⟩
abbrev S1024x16 : Shape := ⟨2, ![1024, 16]⟩
abbrev S256x1 : Shape := ⟨2, ![256, 1]⟩
abbrev S1x1024 : Shape := ⟨2, ![1, 1024]⟩
abbrev S256 : Shape := ⟨1, ![256]⟩
abbrev S1x1x256x1024 : Shape := ⟨4, ![1, 1, 256, 1024]⟩
abbrev S1024x64 : Shape := ⟨2, ![1024, 64]⟩
abbrev S256x64 : Shape := ⟨2, ![256, 64]⟩
abbrev S1x256x64 : Shape := ⟨3, ![1, 256, 64]⟩

abbrev nBuf : Space → Nat
  | .hbm => 26
  | .vmem => 15
  | .smem => 0
  | _ => 0

abbrev bufTy : (tb : Table) → Fin (tcTables nBuf tb) → BufTy
  | .hbm, ⟨0, _⟩ => ⟨S2x1024x512, .f32⟩
  | .hbm, ⟨1, _⟩ => ⟨S2x1024x1024, .i32⟩
  | .hbm, ⟨2, _⟩ => ⟨S512x512, .f32⟩
  | .hbm, ⟨3, _⟩ => ⟨S512, .f32⟩
  | .hbm, ⟨4, _⟩ => ⟨S8x128, .f32⟩
  | .hbm, ⟨5, _⟩ => ⟨S8x64, .f32⟩
  | .hbm, ⟨6, _⟩ => ⟨S512x1, .f32⟩
  | .hbm, ⟨7, _⟩ => ⟨S8x64, .f32⟩
  | .hbm, ⟨8, _⟩ => ⟨S512x1, .f32⟩
  | .hbm, ⟨9, _⟩ => ⟨S8x8, .i32⟩
  | .hbm, ⟨10, _⟩ => ⟨S8x8, .i32⟩
  | .hbm, ⟨11, _⟩ => ⟨S_, .i32⟩
  | .hbm, ⟨12, _⟩ => ⟨S8x8, .i32⟩
  | .hbm, ⟨13, _⟩ => ⟨S8x8, .i32⟩
  | .hbm, ⟨14, _⟩ => ⟨S8x8, .i1⟩
  | .hbm, ⟨15, _⟩ => ⟨S8x8, .f32⟩
  | .hbm, ⟨16, _⟩ => ⟨S8x64x8, .f32⟩
  | .hbm, ⟨17, _⟩ => ⟨S512x8, .f32⟩
  | .hbm, ⟨18, _⟩ => ⟨S512x8, .f32⟩
  | .hbm, ⟨19, _⟩ => ⟨S512x8, .f32⟩
  | .hbm, ⟨20, _⟩ => ⟨S512x8, .f32⟩
  | .hbm, ⟨21, _⟩ => ⟨S512x8, .f32⟩
  | .hbm, ⟨22, _⟩ => ⟨S512x16, .f32⟩
  | .hbm, ⟨23, _⟩ => ⟨S1x512, .f32⟩
  | .hbm, ⟨24, _⟩ => ⟨S2x1024x512, .f32⟩
  | .hbm, ⟨25, _⟩ => ⟨S2x8x1024x1024, .f32⟩
  | .local _ .vmem, ⟨0, _⟩ => ⟨S1x1024x512, .f32⟩
  | .local _ .vmem, ⟨1, _⟩ => ⟨S1x1024x512, .f32⟩
  | .local _ .vmem, ⟨2, _⟩ => ⟨S512x512, .f32⟩
  | .local _ .vmem, ⟨3, _⟩ => ⟨S1x512, .f32⟩
  | .local _ .vmem, ⟨4, _⟩ => ⟨S512x16, .f32⟩
  | .local _ .vmem, ⟨5, _⟩ => ⟨S1x256x1024, .i32⟩
  | .local _ .vmem, ⟨6, _⟩ => ⟨S1x256x1024, .i32⟩
  | .local _ .vmem, ⟨7, _⟩ => ⟨S1x256x512, .f32⟩
  | .local _ .vmem, ⟨8, _⟩ => ⟨S1x256x512, .f32⟩
  | .local _ .vmem, ⟨9, _⟩ => ⟨S1x8x256x1024, .f32⟩
  | .local _ .vmem, ⟨10, _⟩ => ⟨S1x8x256x1024, .f32⟩
  | .local _ .vmem, ⟨11, _⟩ => ⟨S1024x512, .f32⟩
  | .local _ .vmem, ⟨12, _⟩ => ⟨S1024x8, .f32⟩
  | .local _ .vmem, ⟨13, _⟩ => ⟨S8x1024, .f32⟩
  | .local _ .vmem, ⟨14, _⟩ => ⟨S256x1024, .f32⟩
  | _, _ => ⟨S2x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18_0 : Ref sig .tc := ⟨.hbm, 24, rfl⟩
abbrev main_v18_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![2, 4], ![false, false]⟩

def k0_off1 (i : grid0.Coords) : Fin 2 → Nat :=
  let arg1 : BitVec 32 := BitVec.ofNat 32 (i 1).val
  let c256_i32 : BitVec 32 := 256#32
  let v14 : BitVec 32 := Scalar.muli arg1 c256_i32
  let v15 : Index := Scalar.indexCast v14
  let c0_8 : Index := 0#32
  ![v15.toNat, 0]
def k0_off2 (i : grid0.Coords) : Fin 2 → Nat :=
  let arg1 : BitVec 32 := BitVec.ofNat 32 (i 1).val
  let c256_i32_23 : BitVec 32 := 256#32
  let v38 : BitVec 32 := Scalar.muli arg1 c256_i32_23
  let v39 : Index := Scalar.indexCast v38
  let c1 : Index := 1#32
  ![v39.toNat, 1]
def k0_off3 (i : grid0.Coords) : Fin 2 → Nat :=
  let arg1 : BitVec 32 := BitVec.ofNat 32 (i 1).val
  let c256_i32_37 : BitVec 32 := 256#32
  let v62 : BitVec 32 := Scalar.muli arg1 c256_i32_37
  let v63 : Index := Scalar.indexCast v62
  let c2 : Index := 2#32
  ![v63.toNat, 2]
def k0_off4 (i : grid0.Coords) : Fin 2 → Nat :=
  let arg1 : BitVec 32 := BitVec.ofNat 32 (i 1).val
  let c256_i32_51 : BitVec 32 := 256#32
  let v86 : BitVec 32 := Scalar.muli arg1 c256_i32_51
  let v87 : Index := Scalar.indexCast v86
  let c3 : Index := 3#32
  ![v87.toNat, 3]
def k0_off5 (i : grid0.Coords) : Fin 2 → Nat :=
  let arg1 : BitVec 32 := BitVec.ofNat 32 (i 1).val
  let c256_i32_65 : BitVec 32 := 256#32
  let v110 : BitVec 32 := Scalar.muli arg1 c256_i32_65
  let v111 : Index := Scalar.indexCast v110
  let c4 : Index := 4#32
  ![v111.toNat, 4]
def k0_off6 (i : grid0.Coords) : Fin 2 → Nat :=
  let arg1 : BitVec 32 := BitVec.ofNat 32 (i 1).val
  let c256_i32_79 : BitVec 32 := 256#32
  let v134 : BitVec 32 := Scalar.muli arg1 c256_i32_79
  let v135 : Index := Scalar.indexCast v134
  let c5 : Index := 5#32
  ![v135.toNat, 5]
def k0_off7 (i : grid0.Coords) : Fin 2 → Nat :=
  let arg1 : BitVec 32 := BitVec.ofNat 32 (i 1).val
  let c256_i32_93 : BitVec 32 := 256#32
  let v158 : BitVec 32 := Scalar.muli arg1 c256_i32_93
  let v159 : Index := Scalar.indexCast v158
  let c6 : Index := 6#32
  ![v159.toNat, 6]
def k0_off8 (i : grid0.Coords) : Fin 2 → Nat :=
  let arg1 : BitVec 32 := BitVec.ofNat 32 (i 1).val
  let c256_i32_107 : BitVec 32 := 256#32
  let v182 : BitVec 32 := Scalar.muli arg1 c256_i32_107
  let v183 : Index := Scalar.indexCast v182
  let c7 : Index := 7#32
  ![v183.toNat, 7]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x1024 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S2x1024x512 : Shape := ⟨3, ![2, 1024, 512]⟩
abbrev S2x1024x1024 : Shape := ⟨3, ![2, 1024, 1024]⟩
abbrev S512x512 : Shape := ⟨2, ![512, 512]⟩
abbrev S512 : Shape := ⟨1, ![512]⟩
abbrev S8x128 : Shape := ⟨2, ![8, 128]⟩
abbrev S1x1x512 : Shape := ⟨3, ![1, 1, 512]⟩
abbrev S2x1024x8x64 : Shape := ⟨4, ![2, 1024, 8, 64]⟩
abbrev S8x64 : Shape := ⟨2, ![8, 64]⟩
abbrev S8x2x1024 : Shape := ⟨3, ![8, 2, 1024]⟩
abbrev S2x1024x8 : Shape := ⟨3, ![2, 1024, 8]⟩
abbrev S2x1024x1x8 : Shape := ⟨4, ![2, 1024, 1, 8]⟩
abbrev S2x1x1024x8 : Shape := ⟨4, ![2, 1, 1024, 8]⟩
abbrev S2x1024x1024x8 : Shape := ⟨4, ![2, 1024, 1024, 8]⟩
abbrev S_ : Shape := ⟨0, ![]⟩
abbrev S2x1024x1024x1 : Shape := ⟨4, ![2, 1024, 1024, 1]⟩
abbrev S2x8x1024x1024 : Shape := ⟨4, ![2, 8, 1024, 1024]⟩
abbrev S2x8x64x1024 : Shape := ⟨4, ![2, 8, 64, 1024]⟩

abbrev nBuf : Space → Nat
  | .hbm => 56
  | .vmem => 0
  | .smem => 0
  | _ => 0

abbrev bufTy : (tb : Table) → Fin (tcTables nBuf tb) → BufTy
  | .hbm, ⟨0, _⟩ => ⟨S2x1024x512, .f32⟩
  | .hbm, ⟨1, _⟩ => ⟨S2x1024x1024, .i32⟩
  | .hbm, ⟨2, _⟩ => ⟨S512x512, .f32⟩
  | .hbm, ⟨3, _⟩ => ⟨S512, .f32⟩
  | .hbm, ⟨4, _⟩ => ⟨S8x128, .f32⟩
  | .hbm, ⟨5, _⟩ => ⟨S512x512, .f32⟩
  | .hbm, ⟨6, _⟩ => ⟨S2x1024x512, .f32⟩
  | .hbm, ⟨7, _⟩ => ⟨S1x1x512, .f32⟩
  | .hbm, ⟨8, _⟩ => ⟨S2x1024x512, .f32⟩
  | .hbm, ⟨9, _⟩ => ⟨S2x1024x512, .f32⟩
  | .hbm, ⟨10, _⟩ => ⟨S2x1024x8x64, .f32⟩
  | .hbm, ⟨11, _⟩ => ⟨S8x64, .f32⟩
  | .hbm, ⟨12, _⟩ => ⟨S8x64, .f32⟩
  | .hbm, ⟨13, _⟩ => ⟨S8x2x1024, .f32⟩
  | .hbm, ⟨14, _⟩ => ⟨S2x1024x8, .f32⟩
  | .hbm, ⟨15, _⟩ => ⟨S8x2x1024, .f32⟩
  | .hbm, ⟨16, _⟩ => ⟨S2x1024x8, .f32⟩
  | .hbm, ⟨17, _⟩ => ⟨S2x1024x1x8, .f32⟩
  | .hbm, ⟨18, _⟩ => ⟨S2x1x1024x8, .f32⟩
  | .hbm, ⟨19, _⟩ => ⟨S2x1024x1024x8, .f32⟩
  | .hbm, ⟨20, _⟩ => ⟨S2x1024x1024x8, .f32⟩
  | .hbm, ⟨21, _⟩ => ⟨S2x1024x1024x8, .f32⟩
  | .hbm, ⟨22, _⟩ => ⟨S_, .f32⟩
  | .hbm, ⟨23, _⟩ => ⟨S_, .f32⟩
  | .hbm, ⟨24, _⟩ => ⟨S2x1024x1024x8, .f32⟩
  | .hbm, ⟨25, _⟩ => ⟨S2x1024x1024x8, .i1⟩
  | .hbm, ⟨26, _⟩ => ⟨S_, .f32⟩
  | .hbm, ⟨27, _⟩ => ⟨S2x1024x1024x8, .f32⟩
  | .hbm, ⟨28, _⟩ => ⟨S2x1024x1024x8, .f32⟩
  | .hbm, ⟨29, _⟩ => ⟨S2x1024x1024x8, .f32⟩
  | .hbm, ⟨30, _⟩ => ⟨S2x1024x1024x1, .i32⟩
  | .hbm, ⟨31, _⟩ => ⟨S_, .i32⟩
  | .hbm, ⟨32, _⟩ => ⟨S2x1024x1024x1, .i32⟩
  | .hbm, ⟨33, _⟩ => ⟨S2x1024x1024x1, .i1⟩
  | .hbm, ⟨34, _⟩ => ⟨S_, .f32⟩
  | .hbm, ⟨35, _⟩ => ⟨S2x1024x1024x8, .i1⟩
  | .hbm, ⟨36, _⟩ => ⟨S2x1024x1024x8, .f32⟩
  | .hbm, ⟨37, _⟩ => ⟨S2x1024x1024x8, .f32⟩
  | .hbm, ⟨38, _⟩ => ⟨S_, .f32⟩
  | .hbm, ⟨39, _⟩ => ⟨S2x1024x8, .f32⟩
  | .hbm, ⟨40, _⟩ => ⟨S_, .f32⟩
  | .hbm, ⟨41, _⟩ => ⟨S2x1024x8, .f32⟩
  | .hbm, ⟨42, _⟩ => ⟨S2x1024x8, .f32⟩
  | .hbm, ⟨43, _⟩ => ⟨S2x1024x1x8, .f32⟩
  | .hbm, ⟨44, _⟩ => ⟨S2x1024x1024x8, .f32⟩
  | .hbm, ⟨45, _⟩ => ⟨S2x1024x1024x8, .f32⟩
  | .hbm, ⟨46, _⟩ => ⟨S2x1024x1024x8, .f32⟩
  | .hbm, ⟨47, _⟩ => ⟨S_, .f32⟩
  | .hbm, ⟨48, _⟩ => ⟨S2x1024x8, .f32⟩
  | .hbm, ⟨49, _⟩ => ⟨S2x1024x1x8, .f32⟩
  | .hbm, ⟨50, _⟩ => ⟨S2x1024x1024x8, .f32⟩
  | .hbm, ⟨51, _⟩ => ⟨S2x1024x1024x8, .f32⟩
  | .hbm, ⟨52, _⟩ => ⟨S2x8x1024x1024, .f32⟩
  | .hbm, ⟨53, _⟩ => ⟨S2x8x64x1024, .f32⟩
  | .hbm, ⟨54, _⟩ => ⟨S2x1024x8x64, .f32⟩
  | .hbm, ⟨55, _⟩ => ⟨S2x1024x512, .f32⟩
  | _, _ => ⟨S2x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_call0_cst : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v17 : Ref sig .tc := ⟨.hbm, 29, rfl⟩
abbrev main_v18 : Ref sig .tc := ⟨.hbm, 30, rfl⟩
abbrev main_c : Ref sig .tc := ⟨.hbm, 31, rfl⟩
abbrev main_v19 : Ref sig .tc := ⟨.hbm, 32, rfl⟩
abbrev main_v20 : Ref sig .tc := ⟨.hbm, 33, rfl⟩
abbrev main_cst_0 : Ref sig .tc := ⟨.hbm, 34, rfl⟩
abbrev main_call1_v0 : Ref sig .tc := ⟨.hbm, 35, rfl⟩
abbrev main_call1_v1 : Ref sig .tc := ⟨.hbm, 36, rfl⟩
abbrev main_v21 : Ref sig .tc := ⟨.hbm, 37, rfl⟩
abbrev main_cst_1 : Ref sig .tc := ⟨.hbm, 38, rfl⟩
abbrev main_v22 : Ref sig .tc := ⟨.hbm, 39, rfl⟩
abbrev main_cst_2 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_3 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩

abbrev nD : Nat := 1
abbrev τ : Topo := Topo.v7x

variable {F : FTy → Type} [FloatOps F]
-- ==== Proof.Block.lean ====
/- What one grid point of the kernel leaves in its two output blocks.

   At every point the body reads the projected features, the row scores and the column scores from the three arrays it
   keeps between points, and for each of the eight heads stores one plane of attention weights and one group of 64
   output columns. So each output block is the eight heads' pieces laid side by side; `attenBlock` and `outBlock` say
   that once for all heads, and `atten_eq`, `out_eq` say that this is what the run leaves at every point, whether the
   point has just computed the three kept arrays or found them there. -/
module

public import proofs.«01_k».proof.Proof.Gen.KernelIdeal.Value
public import Idealize.ShloMosaic.Lib.Pipeline.ValueKit.Acc
public import Idealize.ShloMosaic.Lib.Pipeline.ReadBack

@[expose] public section

set_option maxRecDepth 16384

noncomputable section

namespace Cert.Proof.Block

open Cert.KernelIdeal Cert.KernelIdeal.Gen Idealize.ShloMosaic Idealize.ShloMosaic.TcCoe Idealize.SL.Sem
open Idealize.ShloMosaic.Tactic

variable {F : FTy → Type} [FloatOps F] [Named F]

/-- The first row of the point's block of rows, as the kernel computes it. -/
def rowOff (i : grid0.Coords) : ℕ := (Scalar.indexCast (Scalar.muli (BitVec.ofNat 32 (i 1).val) 256#32)).toNat

/-- It is 256 times the point's second coordinate. -/
theorem rowOff_eq : ∀ i : grid0.Coords, rowOff i = 256 * (i 1).val := by decide +kernel

theorem inb_row (i : grid0.Coords) (h : Fin 8) : ∀ a, ![rowOff i, h.val] a + S256x1.size a ≤ S1024x8.size a := by
  have h1 : (i 1).val < 4 := (i 1).isLt
  refine Rect.inb₂ ?_ ?_
  · show rowOff i + 256 ≤ 1024
    rw [rowOff_eq]; omega
  · show h.val + 1 ≤ 8
    omega

theorem inb_col (h : Fin 8) : ∀ a, ![h.val, 0] a + S1x1024.size a ≤ S8x1024.size a :=
  Rect.inb₂ (show h.val + 1 ≤ 8 by omega) (show 0 + 1024 ≤ 1024 by omega)

theorem inb_feat (h : Fin 8) : ∀ a, ![0, 64 * h.val] a + S1024x64.size a ≤ S1024x512.size a :=
  Rect.inb₂ (show 0 + 1024 ≤ 1024 by omega) (show 64 * h.val + 64 ≤ 512 by omega)

theorem inb_atten (h : Fin 8) : ∀ a, ![0, h.val, 0, 0] a + S1x1x256x1024.size a ≤ S1x8x256x1024.size a := fun
  | ⟨0, _⟩ => show 0 + 1 ≤ 1 by omega
  | ⟨1, _⟩ => show h.val + 1 ≤ 8 by omega
  | ⟨2, _⟩ => show 0 + 256 ≤ 256 by omega
  | ⟨3, _⟩ => show 0 + 1024 ≤ 1024 by omega

theorem inb_out (h : Fin 8) : ∀ a, ![0, 0, 64 * h.val] a + S1x256x64.size a ≤ S1x256x512.size a := fun
  | ⟨0, _⟩ => show 0 + 1 ≤ 1 by omega
  | ⟨1, _⟩ => show 0 + 256 ≤ 256 by omega
  | ⟨2, _⟩ => show 64 * h.val + 64 ≤ 512 by omega

/-- The eight heads, last stored first. -/
def heads : List (Fin 8) := [7, 6, 5, 4, 3, 2, 1, 0]

theorem mem_heads : ∀ h : Fin 8, h ∈ heads := by decide

section Blocks

variable (i : grid0.Coords) (pen : Vec F S256x1024 .f32) (feat : Vec F S1024x512 .f32) (er : Vec F S1024x8 .f32)
  (ect : Vec F S8x1024 .f32)

/-- One head's attention weights over the point's rows. -/
def probs (h : Fin 8) : FVec F S256x1024 .f32 :=
  k0_pay8 pen (View.ld er (Rect.unit ![rowOff i, h.val] S256x1.size (inb_row i h)))
    (View.ld ect (Rect.unit ![h.val, 0] S1x1024.size (inb_col h)))

/-- One head's store into the block of attention weights: its plane. -/
def attenPiece (h : Fin 8) : View.Piece (Elt F) S1x8x256x1024 .f32 :=
  ⟨Rect.unit ![0, h.val, 0, 0] S1x1x256x1024.size (inb_atten h), k0_pay18 (probs i pen er ect h)⟩

/-- One head's store into the block of outputs: its 64 columns. -/
def outPiece (h : Fin 8) : View.Piece (Elt F) S1x256x512 .f32 :=
  ⟨Rect.unit ![0, 0, 64 * h.val] S1x256x64.size (inb_out h),
    k0_pay10 (probs i pen er ect h) (View.ld feat (Rect.unit ![0, 64 * h.val] S1024x64.size (inb_feat h)))⟩

/-- The point's block of attention weights. -/
def attenBlock : Vec F S1x8x256x1024 .f32 := View.canon (heads.map (attenPiece i pen er ect))

/-- The point's block of outputs. -/
def outBlock : Vec F S1x256x512 .f32 := View.canon (heads.map (outPiece i pen feat er ect))

end Blocks

variable (m : (ℓ : Loc nD τ sig) → Buf (Elt F) ℓ)

/-- A load of part of what the stores left is that part of their contents. -/
theorem readCov_ld {S : Shape} {e : EltTy} {sg : RefSig} {κ : Kind} {sp : Space} (v : View sg κ sp S e)
    (L : List (View.Piece (Elt F) S e)) (r : Rect S) :
    v.readCov L r.toLoadRect = View.ld (View.canon L) r :=
  View.readCov_eq_canon' v L r.toLoadRect

/-- A point that computes the kept arrays leaves the projection of its feature block in the first. -/
theorem feat_A (c : Dev nD) (t : Fin cfg0.N) (h0 : t.val % 4 = 0) :
    (outsAt0 m c t.val t.isLt).2.2.1 = k0_pay3 (iblk m c 0 t) (iblk m c 1 t) (iblk m c 2 t) := by
  rw [outsAt0_A m c t h0]
  frame_out

/-- It leaves the row scores in the second. -/
theorem er_A (c : Dev nD) (t : Fin cfg0.N) (h0 : t.val % 4 = 0) :
    (outsAt0 m c t.val t.isLt).2.2.2.1
      = k0_pay5 (iblk m c 0 t) (iblk m c 1 t) (iblk m c 2 t) (iblk m c 3 t) := by
  rw [outsAt0_A m c t h0]
  frame_out

/-- It leaves the column scores in the third. -/
theorem ect_A (c : Dev nD) (t : Fin cfg0.N) (h0 : t.val % 4 = 0) :
    (outsAt0 m c t.val t.isLt).2.2.2.2
      = k0_pay6 (iblk m c 0 t) (iblk m c 1 t) (iblk m c 2 t) (iblk m c 3 t) := by
  rw [outsAt0_A m c t h0]
  frame_out

/-- The block of attention weights after a point that computes the kept arrays. -/
theorem atten_A (c : Dev nD) (t : Fin cfg0.N) (h0 : t.val % 4 = 0) :
    (outsAt0 m c t.val t.isLt).2.1 = attenBlock (grid0.coords t) (k0_pay7 (iblk m c 4 t))
      (k0_pay5 (iblk m c 0 t) (iblk m c 1 t) (iblk m c 2 t) (iblk m c 3 t))
      (k0_pay6 (iblk m c 0 t) (iblk m c 1 t) (iblk m c 2 t) (iblk m c 3 t)) := by
  rw [outsAt0_A m c t h0]
  frame_out [View.readCov_cons_toLoadRect]
  simp (disch := decide) only [readCov_ld, View.canon_cons_unit_lit']
  rfl

/-- The block of outputs after a point that computes the kept arrays. -/
theorem out_A (c : Dev nD) (t : Fin cfg0.N) (h0 : t.val % 4 = 0) :
    (outsAt0 m c t.val t.isLt).1 = outBlock (grid0.coords t) (k0_pay7 (iblk m c 4 t))
      (k0_pay3 (iblk m c 0 t) (iblk m c 1 t) (iblk m c 2 t))
      (k0_pay5 (iblk m c 0 t) (iblk m c 1 t) (iblk m c 2 t) (iblk m c 3 t))
      (k0_pay6 (iblk m c 0 t) (iblk m c 1 t) (iblk m c 2 t) (iblk m c 3 t)) := by
  rw [outsAt0_A m c t h0]
  frame_out [View.readCov_cons_toLoadRect]
  simp (disch := decide) only [readCov_ld, View.canon_cons_unit_lit']
  rfl

/-- A point that does not compute the kept arrays leaves each as the point before it did. -/
theorem kept_B (c : Dev nD) (t : Fin cfg0.N) (h0 : ¬t.val % 4 = 0) :
    (outsAt0 m c t.val t.isLt).2.2
      = (outsAt0 m c (t.val - 1) (Nat.lt_of_le_of_lt (Nat.sub_le _ _) t.isLt)).2.2 := by
  rw [outsAt0_B m c t h0]
  rfl

/-- The block of attention weights after a point that found the kept arrays there. -/
theorem atten_B (c : Dev nD) (t : Fin cfg0.N) (h0 : ¬t.val % 4 = 0) :
    (outsAt0 m c t.val t.isLt).2.1 = attenBlock (grid0.coords t) (k0_pay7 (iblk m c 4 t))
      (outsAt0 m c (t.val - 1) (Nat.lt_of_le_of_lt (Nat.sub_le _ _) t.isLt)).2.2.2.1
      (outsAt0 m c (t.val - 1) (Nat.lt_of_le_of_lt (Nat.sub_le _ _) t.isLt)).2.2.2.2 := by
  rw [outsAt0_B m c t h0]
  frame_out [View.readCov_cons_toLoadRect, read_unread_whole]
  rfl

/-- The block of outputs after a point that found the kept arrays there. -/
theorem out_B (c : Dev nD) (t : Fin cfg0.N) (h0 : ¬t.val % 4 = 0) :
    (outsAt0 m c t.val t.isLt).1 = outBlock (grid0.coords t) (k0_pay7 (iblk m c 4 t))
      (outsAt0 m c (t.val - 1) (Nat.lt_of_le_of_lt (Nat.sub_le _ _) t.isLt)).2.2.1
      (outsAt0 m c (t.val - 1) (Nat.lt_of_le_of_lt (Nat.sub_le _ _) t.isLt)).2.2.2.1
      (outsAt0 m c (t.val - 1) (Nat.lt_of_le_of_lt (Nat.sub_le _ _) t.isLt)).2.2.2.2 := by
  rw [outsAt0_B m c t h0]
  frame_out [View.readCov_cons_toLoadRect, read_unread_whole]
  rfl

end Cert.Proof.Block

end
-- ==== Proof.Softmax.lean ====
/- The arithmetic of one attention row, over the extended reals.

   A row has real scores `l j` and a set of allowed positions `p`. One program weighs position `j` by
   `exp (max (l j) (α · l j) + (0 or −∞))` and divides by the sum of the weights; the other puts −∞ at the positions
   that are not allowed, subtracts the row's maximum, and only then takes exponentials and divides. The two quotients
   are equal, also in a row with no allowed position, where both are 0 / 0. -/
module

public import Idealize.ShloMosaic.PureOps.Ideal.Laws
public import Mathlib.Analysis.SpecialFunctions.Exp

@[expose] public section

noncomputable section

namespace Cert.Proof.Softmax

open Idealize.ShloMosaic
open scoped BigOperators

/-- The slope of the leaky part: the number the 32-bit literal nearest to 0.2 stands for. -/
def slope : ℝ := 13421773 / 67108864

theorem slope_pos : 0 < slope := by norm_num [slope]
theorem slope_le_one : slope ≤ 1 := by norm_num [slope]

/-- The literal both programs scale negative scores by stands for `slope`. -/
theorem ofBits_slope : Ideal.ofBits .f32 0x3E4CCCCD#32 = (slope : EReal) := by
  simp [Ideal.ofBits, Ideal.ieee, slope, -EReal.coe_mul]; norm_num

/-- The literal the reference masks with, and starts its maximum from, is −∞. -/
theorem ofBits_neg_inf : Ideal.ofBits .f32 0xFF800000#32 = ⊥ := by
  simp [Ideal.ofBits, Ideal.ieee]

/-- The literal finiteness is tested against is +∞. -/
theorem ofBits_pos_inf : Ideal.ofBits .f32 0x7F800000#32 = ⊤ := by
  simp [Ideal.ofBits, Ideal.ieee]

/-- The leaky score as a real number. -/
def leaky (l : ℝ) : ℝ := max l (slope * l)

/-- The larger of a score and its scaled copy is the leaky score. -/
theorem max_eq_leaky (l : ℝ) : max (l : EReal) ((slope : EReal) * (l : EReal)) = (leaky l : EReal) := by
  rw [← EReal.coe_mul, leaky]
  exact (EReal.coe_strictMono.monotone.map_max).symm

/-- Choosing by the sign of the score gives the leaky score too. -/
theorem ite_eq_leaky (l : ℝ) :
    (if (0 : EReal) ≤ (l : EReal) then (l : EReal) else (slope : EReal) * (l : EReal)) = (leaky l : EReal) := by
  have hs := slope_pos
  have h1 := slope_le_one
  rw [← EReal.coe_mul, leaky]
  split_ifs with h <;> rw [EReal.coe_nonneg] at h
  · rw [max_eq_left (by nlinarith)]
  · rw [max_eq_right (by nlinarith)]

section Row

variable {ι : Type*} [Fintype ι] (l : ι → ℝ) (p : ι → Prop) [DecidablePred p]

/-- The weight of a position before normalising, by adding 0 or −∞ to the leaky score. -/
def weight (j : ι) : EReal :=
  Ideal.exp (max (l j : EReal) ((slope : EReal) * (l j : EReal)) + if p j then 0 else ⊥)

/-- The leaky score where the position is allowed, −∞ where it is not. -/
def masked (j : ι) : EReal :=
  if p j then (if (0 : EReal) ≤ (l j : EReal) then (l j : EReal) else (slope : EReal) * (l j : EReal)) else ⊥

/-- The largest masked score of the row. -/
def top : EReal := Finset.univ.fold max ⊥ (masked l p)

/-- The weight as a real number: the exponential of the leaky score, or 0. -/
def realWeight (j : ι) : ℝ := if p j then Real.exp (leaky (l j)) else 0

theorem weight_eq (j : ι) : weight l p j = (realWeight l p j : EReal) := by
  unfold weight realWeight
  rw [max_eq_leaky]
  split_ifs
  · rw [add_zero, Ideal.exp_coe]
  · rw [EReal.add_bot, Ideal.exp_bot, EReal.coe_zero]

theorem masked_eq (j : ι) : masked l p j = if p j then (leaky (l j) : EReal) else ⊥ := by
  unfold masked
  rw [ite_eq_leaky]

/-- In a row with an allowed position the largest masked score is a real number. -/
theorem top_real (h : ∃ j, p j) : ∃ t : ℝ, top l p = (t : EReal) := by
  obtain ⟨j, hj⟩ := h
  have hlo : (leaky (l j) : EReal) ≤ top l p := by
    have : masked l p j ≤ top l p := (Finset.le_fold_max _).2 (Or.inr ⟨j, Finset.mem_univ _, le_rfl⟩)
    rwa [masked_eq, if_pos hj] at this
  have hhi : top l p < ⊤ := (Finset.fold_max_lt _).2 ⟨bot_lt_top, fun k _ => by
    rw [masked_eq]; split_ifs
    · exact EReal.coe_lt_top _
    · exact bot_lt_top⟩
  refine ⟨(top l p).toReal, (EReal.coe_toReal hhi.ne ?_).symm⟩
  exact ne_of_gt (lt_of_lt_of_le (EReal.bot_lt_coe _) hlo)

/-- The exponential of a masked score less a real number is the weight scaled by the exponential of that number's
    negative. -/
theorem exp_masked_sub (t : ℝ) (j : ι) :
    Ideal.exp (masked l p j - (t : EReal)) = ((realWeight l p j * Real.exp (-t) : ℝ) : EReal) := by
  rw [masked_eq, realWeight]
  split_ifs
  · rw [← EReal.coe_sub, Ideal.exp_coe, ← Real.exp_add, sub_eq_add_neg]
  · rw [EReal.bot_sub, Ideal.exp_bot, zero_mul, EReal.coe_zero]

/-- The sum of real numbers, read as an extended real, is the sum of the summands read so. -/
theorem coe_sum (f : ι → ℝ) : (∑ j, (f j : EReal)) = ((∑ j, f j : ℝ) : EReal) := by
  classical
  refine Finset.induction_on (Finset.univ : Finset ι) (by simp) fun a s ha ih => ?_
  rw [Finset.sum_insert ha, Finset.sum_insert ha, ih, EReal.coe_add]

/-- A quotient of real numbers is unchanged when both are scaled by the same positive number. -/
theorem div_scale (a b c : ℝ) (hb : b ≠ 0) (hc : c ≠ 0) :
    Ideal.div (a : EReal) (b : EReal) = Ideal.div ((a * c : ℝ) : EReal) ((b * c : ℝ) : EReal) := by
  rw [Ideal.div_coe hb, Ideal.div_coe (mul_ne_zero hb hc), ← EReal.coe_mul, ← EReal.coe_mul]
  congr 1
  field_simp

/-- THE ROW: weights divided by their sum are the exponentials of the masked scores less their maximum, divided by
    the sum of those. -/
theorem row_eq (i : ι) :
    Ideal.div (weight l p i) (∑ j, weight l p j)
      = Ideal.div (Ideal.exp (masked l p i - top l p)) (∑ j, Ideal.exp (masked l p j - top l p)) := by
  by_cases h : ∃ j, p j
  · obtain ⟨t, ht⟩ := top_real l p h
    simp only [ht, exp_masked_sub, weight_eq, coe_sum]
    rw [← Finset.sum_mul]
    refine div_scale _ _ _ (ne_of_gt ?_) (Real.exp_ne_zero _)
    obtain ⟨j, hj⟩ := h
    refine Finset.sum_pos' (fun k _ => ?_) ⟨j, Finset.mem_univ _, ?_⟩
    · unfold realWeight; split_ifs
      · exact (Real.exp_pos _).le
      · exact le_rfl
    · rw [realWeight, if_pos hj]; exact Real.exp_pos _
  · have hw : ∀ j, weight l p j = 0 := fun j => by
      rw [weight_eq, realWeight, if_neg fun hj => h ⟨j, hj⟩, EReal.coe_zero]
    have hm : ∀ j, Ideal.exp (masked l p j - top l p) = 0 := fun j => by
      rw [masked_eq, if_neg fun hj => h ⟨j, hj⟩, EReal.bot_sub, Ideal.exp_bot]
    simp only [hw, hm]

end Row

end Cert.Proof.Softmax

end
-- ==== Proof.Spec.lean ====
/- The mathematics of the layer, over plain functions of the arguments.

   `x` are the node features, `w` and `b` the projection's weights and bias, `a` each head's two scoring vectors side by
   side, `adj` the adjacency matrix; a value is an extended real. Each head scores a pair of nodes by a row part plus a
   column part, applies the leaky rectifier, drops the pairs whose adjacency entry is not 1, and takes the softmax along
   the row; its output is the weighted sum of its 64 projected features. -/
module

public import proofs.«01_k».proof.Proof.Softmax

@[expose] public section

noncomputable section

namespace Cert.Proof.Spec

open Idealize.ShloMosaic
open Cert.Proof.Softmax

/-- The head a feature column belongs to: 64 columns per head. -/
def headOf (l : Fin 512) : Fin 8 := ⟨l.val / 64, by have := l.isLt; omega⟩

/-- Feature column `d` of head `h`. -/
def col (h : Fin 8) (d : Fin 64) : Fin 512 := ⟨64 * h.val + d.val, by omega⟩

/-- The place of entry `d` of a head's row scoring vector. -/
def lo (d : Fin 64) : Fin 128 := ⟨d.val, by omega⟩

/-- The place of entry `d` of a head's column scoring vector. -/
def hi (d : Fin 64) : Fin 128 := ⟨64 + d.val, by omega⟩

/-- A column's place among its head's 64. -/
def pos (l : Fin 512) : Fin 64 := ⟨l.val % 64, by omega⟩

theorem headOf_col (h : Fin 8) (d : Fin 64) : headOf (col h d) = h :=
  Fin.ext (by show (64 * h.val + d.val) / 64 = h.val; omega)

theorem pos_col (h : Fin 8) (d : Fin 64) : pos (col h d) = d :=
  Fin.ext (by show (64 * h.val + d.val) % 64 = d.val; omega)

theorem col_pos (l : Fin 512) : col (headOf l) (pos l) = l :=
  Fin.ext (by show 64 * (l.val / 64) + l.val % 64 = l.val; omega)

variable (x : Fin 2 → Fin 1024 → Fin 512 → EReal) (adj : Fin 2 → Fin 1024 → Fin 1024 → BitVec 32)
  (w : Fin 512 → Fin 512 → EReal) (b : Fin 512 → EReal) (a : Fin 8 → Fin 128 → EReal)

/-- The projected features. -/
def hid (B : Fin 2) (n : Fin 1024) (k : Fin 512) : EReal := ∑ c, x B n c * w k c + b k

/-- The row part of head `h`'s score of node `n`. -/
def src (B : Fin 2) (n : Fin 1024) (h : Fin 8) : EReal := ∑ d, a h (lo d) * hid x w b B n (col h d)

/-- The column part of head `h`'s score of node `n`. -/
def dst (B : Fin 2) (n : Fin 1024) (h : Fin 8) : EReal := ∑ d, a h (hi d) * hid x w b B n (col h d)

/-- Head `h`'s score of the pair `i`, `j`. -/
def logit (B : Fin 2) (h : Fin 8) (i j : Fin 1024) : EReal := src x w b a B i h + dst x w b a B j h

/-- The score after the rectifier, −∞ where the pair is not adjacent. -/
def masked (B : Fin 2) (h : Fin 8) (i j : Fin 1024) : EReal :=
  if adj B i j = 1#32 then
    (if (0 : EReal) ≤ logit x w b a B h i j then logit x w b a B h i j else (slope : EReal) * logit x w b a B h i j)
  else ⊥

/-- The attention weights: the softmax of a row, its maximum subtracted first. -/
def atten (B : Fin 2) (h : Fin 8) (i j : Fin 1024) : EReal :=
  Ideal.div (Ideal.exp (masked x adj w b a B h i j - Finset.univ.fold max ⊥ (masked x adj w b a B h i)))
    (∑ k, Ideal.exp (masked x adj w b a B h i k - Finset.univ.fold max ⊥ (masked x adj w b a B h i)))

/-- The layer's output: each column's head weighs that column of the projected features. -/
def out (B : Fin 2) (i : Fin 1024) (l : Fin 512) : EReal :=
  ∑ j, atten x adj w b a B (headOf l) i j * hid x w b B j l

/-- A sum over all columns of terms that vanish outside head `h`'s is the sum over head `h`'s. -/
theorem sum_col (h : Fin 8) (f : Fin 512 → EReal) (hf : ∀ k, headOf k ≠ h → f k = 0) :
    ∑ k, f k = ∑ d, f (col h d) := by
  refine (Finset.sum_of_injOn (col h) ?_ (fun _ _ => Finset.mem_univ _) (fun k _ hk => hf k fun e => hk ?_)
    (fun _ _ => rfl)).symm
  · intro d _ d' _ e
    have := congrArg Fin.val e
    exact Fin.ext (by unfold col at this; simp only at this; omega)
  · refine ⟨⟨k.val % 64, by omega⟩, Finset.mem_coe.2 (Finset.mem_univ _), Fin.ext ?_⟩
    have := congrArg Fin.val e
    unfold headOf at this
    unfold col
    simp only at this ⊢
    omega

/-- A weight that is the scoring vector on head `h`'s columns and zero on the others sums to the head's score. -/
theorem sum_masked (h : Fin 8) (f : Fin 512 → EReal) (v : Fin 512 → EReal) :
    ∑ k, f k * ((if headOf k = h then 1 else 0) * v k) = ∑ d, v (col h d) * f (col h d) := by
  rw [sum_col h]
  · refine Finset.sum_congr rfl fun d _ => ?_
    rw [if_pos (headOf_col h d), one_mul, mul_comm]
  · intro k hk
    rw [if_neg hk, zero_mul, mul_zero]

end Cert.Proof.Spec

end
-- ==== Proof.BlockAt.lean ====
/- One grid point's output blocks read at a place, over the extended reals.

   A place of the block of attention weights lies in exactly one head's plane, a place of the block of outputs in exactly
   one head's 64 columns; read there, the block is that head's value. `weights` is the one row of attention weights,
   written over the head's scores, that both blocks are made of. -/
module

public import proofs.«01_k».proof.Proof.Block
public import proofs.«01_k».proof.Proof.Spec
public import Idealize.ShloMosaic.Lib.Pointwise

@[expose] public section

set_option maxRecDepth 16384

noncomputable section

namespace Cert.Proof.Block

open Cert.KernelIdeal Cert.KernelIdeal.Gen Idealize.ShloMosaic Idealize.ShloMosaic.TcCoe Idealize.SL.Sem
open Idealize.ShloMosaic.Tactic

variable (i : grid0.Coords) (pen : Vec Ideal S256x1024 .f32) (feat : Vec Ideal S1024x512 .f32)
  (er : Vec Ideal S1024x8 .f32) (ect : Vec Ideal S8x1024 .f32)

/-- One head's attention weights, read at a place: the exponential there over the sum of its row's. -/
theorem pay8_apply (e1 : Vec Ideal S256x1 .f32) (e2 : Vec Ideal S1x1024 .f32) (r : Fin 256) (j : Fin 1024) :
    k0_pay8 pen e1 e2 (ix2 r j)
      = Ideal.div
          (Ideal.exp (max (e1 (ix2 r (0 : Fin 1)) + e2 (ix2 (0 : Fin 1) j))
            (Ideal.ofBits .f32 0x3E4CCCCD#32 * (e1 (ix2 r (0 : Fin 1)) + e2 (ix2 (0 : Fin 1) j))) + pen (ix2 r j)))
          (∑ x : Fin 1024, Ideal.exp (max (e1 (ix2 r (0 : Fin 1)) + e2 (ix2 (0 : Fin 1) x))
            (Ideal.ofBits .f32 0x3E4CCCCD#32 * (e1 (ix2 r (0 : Fin 1)) + e2 (ix2 (0 : Fin 1) x))) + pen (ix2 r x))) := by
  pointwise [k0_pay8]

/-- A head's plane, stored with two unit axes in front, read at a place. -/
theorem pay18_apply (p : FVec Ideal S256x1024 .f32) (x : S1x1x256x1024.Idx) :
    k0_pay18 p x = p (ix2 (x 2) (x 3)) := by
  have hx : x = ix4 (0 : Fin 1) (0 : Fin 1) (x 2) (x 3) := funext fun
    | ⟨0, _⟩ => Fin.ext (by have h : (x 0).val < 1 := (x 0).isLt; show (x 0).val = 0; omega)
    | ⟨1, _⟩ => Fin.ext (by have h : (x 1).val < 1 := (x 1).isLt; show (x 1).val = 0; omega)
    | ⟨2, _⟩ => rfl
    | ⟨3, _⟩ => rfl
  obtain ⟨r, hr⟩ : ∃ r : Fin 256, r = x 2 := ⟨_, rfl⟩
  obtain ⟨j, hj⟩ : ∃ j : Fin 1024, j = x 3 := ⟨_, rfl⟩
  rw [← hr, ← hj] at hx ⊢
  rw [hx]
  pointwise [k0_pay18]

/-- A head's output columns, stored with a unit axis in front, read at a place: the weighted sum of features. -/
theorem pay10_apply (p : FVec Ideal S256x1024 .f32) (f : Vec Ideal S1024x64 .f32) (x : S1x256x64.Idx) :
    k0_pay10 p f x = ∑ k : Fin 1024, p (ix2 (x 1) k) * f (ix2 k (x 2)) := by
  have hx : x = ix3 (0 : Fin 1) (x 1) (x 2) := funext fun
    | ⟨0, _⟩ => Fin.ext (by have h : (x 0).val < 1 := (x 0).isLt; show (x 0).val = 0; omega)
    | ⟨1, _⟩ => rfl
    | ⟨2, _⟩ => rfl
  obtain ⟨r, hr⟩ : ∃ r : Fin 256, r = x 1 := ⟨_, rfl⟩
  obtain ⟨l, hl⟩ : ∃ l : Fin 64, l = x 2 := ⟨_, rfl⟩
  rw [← hr, ← hl] at hx ⊢
  rw [hx]
  pointwise [k0_pay10]

/-- Row `r` of the point's block, as a row of the whole array of rows. -/
def rowAt (r : Fin 256) : Fin 1024 :=
  ⟨256 * (i 1).val + r.val, by have h1 : (i 1).val < 4 := (i 1).isLt; omega⟩

/-- The exponential the kernel takes for head `h` at row `r`, column `j`. -/
def expo (h : Fin 8) (r : Fin 256) (j : Fin 1024) : EReal :=
  Ideal.exp (max (er (ix2 (rowAt i r) h) + ect (ix2 h j))
    (Ideal.ofBits .f32 0x3E4CCCCD#32 * (er (ix2 (rowAt i r) h) + ect (ix2 h j))) + pen (ix2 r j))

/-- A head's attention weight is its exponential over the row's sum. -/
theorem probs_apply (h : Fin 8) (r : Fin 256) (j : Fin 1024) :
    probs i pen er ect h (ix2 r j) = Ideal.div (expo i pen er ect h r j) (∑ x, expo i pen er ect h r x) := by
  have e1 : View.ld er (Rect.unit ![rowOff i, h.val] S256x1.size (inb_row i h)) (ix2 r (0 : Fin 1))
      = er (ix2 (rowAt i r) h) := by
    refine congrArg er (funext fun | ⟨0, _⟩ => Fin.ext ?_ | ⟨1, _⟩ => Fin.ext ?_)
    · show rowOff i + 1 * r.val = 256 * (i 1).val + r.val
      rw [rowOff_eq]; omega
    · show h.val + 1 * 0 = h.val
      omega
  have e2 : ∀ x : Fin 1024, View.ld ect (Rect.unit ![h.val, 0] S1x1024.size (inb_col h)) (ix2 (0 : Fin 1) x)
      = ect (ix2 h x) := fun x => by
    refine congrArg ect (funext fun | ⟨0, _⟩ => Fin.ext ?_ | ⟨1, _⟩ => Fin.ext ?_)
    · show h.val + 1 * 0 = h.val
      omega
    · show 0 + 1 * x.val = x.val
      omega
  unfold probs expo
  rw [pay8_apply]
  simp only [e1, e2]

/-- The block of attention weights, read in head `h`'s plane. -/
theorem attenBlock_apply (h : Fin 8) (r : Fin 256) (j : Fin 1024) :
    attenBlock i pen er ect (ix4 (0 : Fin 1) h r j) = probs i pen er ect h (ix2 r j) := by
  unfold attenBlock
  refine (View.canon_apply_of_pieces (Val := Elt Ideal) (e := .f32) (fun y : S1x8x256x1024.Idx => probs i pen er ect (y 1) (ix2 (y 2) (y 3)))
    _ ?_ _ ⟨_, List.mem_map.2 ⟨h, mem_heads h, rfl⟩, ?_⟩)
  · intro p hp x
    obtain ⟨g, -, rfl⟩ := List.mem_map.1 hp
    have h1 : (x 1).val < 1 := (x 1).isLt
    refine (pay18_apply (probs i pen er ect g) x).trans ?_
    refine congr (congrArg (probs i pen er ect) (Fin.ext ?_)) (funext fun | ⟨0, _⟩ => Fin.ext ?_ | ⟨1, _⟩ => Fin.ext ?_)
    · show g.val = g.val + 1 * (x 1).val
      omega
    · show (x 2).val = 0 + 1 * (x 2).val
      omega
    · show (x 3).val = 0 + 1 * (x 3).val
      omega
  · refine (Rect.mem_set_unit (inb := inb_atten h)).2 fun | ⟨0, _⟩ => ?_ | ⟨1, _⟩ => ?_ | ⟨2, _⟩ => ?_ | ⟨3, _⟩ => ?_
    · show 0 ≤ 0 ∧ 0 < 0 + 1
      omega
    · show h.val ≤ h.val ∧ h.val < h.val + 1
      omega
    · show 0 ≤ r.val ∧ r.val < 0 + 256
      omega
    · show 0 ≤ j.val ∧ j.val < 0 + 1024
      omega

/-- The block of outputs, read at row `r`, column `l`: the head owning the column weighs its features. -/
theorem outBlock_apply (r : Fin 256) (l : Fin 512) :
    outBlock i pen feat er ect (ix3 (0 : Fin 1) r l)
      = ∑ x : Fin 1024, probs i pen er ect (Spec.headOf l) (ix2 r x) * feat (ix2 x l) := by
  unfold outBlock
  refine (View.canon_apply_of_pieces (Val := Elt Ideal) (e := .f32) (fun y : S1x256x512.Idx => ∑ x : Fin 1024,
      probs i pen er ect (Spec.headOf (y 2)) (ix2 (y 1) x)
        * feat (ix2 x (y 2)))
    _ ?_ _ ⟨_, List.mem_map.2 ⟨Spec.headOf l, mem_heads _, rfl⟩, ?_⟩)
  · intro p hp x
    obtain ⟨g, -, rfl⟩ := List.mem_map.1 hp
    have h2 : (x 2).val < 64 := (x 2).isLt
    refine (pay10_apply (probs i pen er ect g) _ x).trans (Finset.sum_congr rfl fun k _ => congr (congrArg HMul.hMul ?_) ?_)
    · refine congr (congrArg (probs i pen er ect) (Fin.ext ?_)) (funext fun | ⟨0, _⟩ => Fin.ext ?_ | ⟨1, _⟩ => rfl)
      · show g.val = (64 * g.val + 1 * (x 2).val) / 64
        omega
      · show (x 1).val = 0 + 1 * (x 1).val
        omega
    · refine congrArg feat (funext fun | ⟨0, _⟩ => Fin.ext ?_ | ⟨1, _⟩ => Fin.ext ?_)
      · show 0 + 1 * k.val = k.val
        omega
      · show 64 * g.val + 1 * (x 2).val = 64 * g.val + 1 * (x 2).val
        rfl
  · refine (Rect.mem_set_unit (inb := inb_out (Spec.headOf l))).2 fun | ⟨0, _⟩ => ?_ | ⟨1, _⟩ => ?_ | ⟨2, _⟩ => ?_
    · show 0 ≤ 0 ∧ 0 < 0 + 1
      omega
    · show 0 ≤ r.val ∧ r.val < 0 + 256
      omega
    · show 64 * (l.val / 64) ≤ l.val ∧ l.val < 64 * (l.val / 64) + 64
      omega

end Cert.Proof.Block

end
-- ==== Proof.Inputs.lean ====
/- What the kernel's grid points read: the five input blocks at a place, over the program's arguments.

   The scoring matrix and the bias are prepared by host operations before the launch; the matrix holds, for head `h`, its
   row scoring vector in column `h` and its column scoring vector in column `8 + h`, each on the head's own 64 rows and
   zero on the others. -/
module

public import proofs.«01_k».proof.Proof.Gen.KernelIdeal.Value
public import proofs.«01_k».proof.Proof.Spec
public import Idealize.ShloMosaic.Lib.Pointwise
public import Idealize.ShloMosaic.Lib.Pipeline.ValueKit

@[expose] public section

set_option maxRecDepth 16384

noncomputable section

namespace Cert.Proof.Inputs

open Cert.KernelIdeal Cert.KernelIdeal.Gen Idealize.ShloMosaic Idealize.ShloMosaic.TcCoe Idealize.SL.Sem
open Idealize.ShloMosaic.Tactic

variable (m : (ℓ : Loc nD τ sig) → Buf (Elt Ideal) ℓ)

/-- The node features, as the program is given them. -/
def X (c : Dev nD) (B : Fin 2) (n : Fin 1024) (k : Fin 512) : EReal := m (c, Proc.tc.devRef main_arg0) (ix3 B n k)

/-- The adjacency matrix. -/
def Adj (c : Dev nD) (B : Fin 2) (i j : Fin 1024) : BitVec 32 := m (c, Proc.tc.devRef main_arg1) (ix3 B i j)

/-- The projection's weights. -/
def W (c : Dev nD) (k l : Fin 512) : EReal := m (c, Proc.tc.devRef main_arg2) (ix2 k l)

/-- The projection's bias. -/
def Bias (c : Dev nD) (k : Fin 512) : EReal := m (c, Proc.tc.devRef main_arg3) (ix1 k)

/-- The heads' scoring vectors. -/
def A (c : Dev nD) (h : Fin 8) (d : Fin 128) : EReal := m (c, Proc.tc.devRef main_arg4) (ix2 h d)

/-- The bias as the launch finds it, one row. -/
theorem V_v17 (c : Dev nD) (l : Fin 512) : V m c main_v17 (ix2 (0 : Fin 1) l) = Bias m c l := by
  unfold_abbrev_sides
  after_results
  pointwise
  rfl

/-- A pair of head numbers compared as words: one where they are equal, else zero. -/
theorem eye : ∀ g h : Fin 8, FloatOps.uitofp (F := Ideal) .f32
    (IntOp.cmpi .eq (IntOp.addi (BitVec.ofNat 32 g.val) 0#32) (BitVec.ofNat 32 h.val))
      = if g = h then (1 : EReal) else 0 := by
  intro g h
  have e : IntOp.cmpi .eq (IntOp.addi (BitVec.ofNat 32 g.val) 0#32) (BitVec.ofNat 32 h.val)
      = if g = h then 1#1 else 0#1 := by revert g h; decide +kernel
  rw [e]
  split_ifs <;> show ((((_ : BitVec 1).toNat : ℝ)) : EReal) = _ <;> simp

/-- The scoring matrix's column `h`: head `h`'s row scoring vector on the head's own rows. -/
theorem V_v16_lo (c : Dev nD) (k : Fin 512) (h : Fin 8) :
    V m c main_v16 (ix2 k (⟨h.val, by omega⟩ : Fin 16))
      = (if Spec.headOf k = h then 1 else 0) * A m c (Spec.headOf k) (Spec.lo (Spec.pos k)) := by
  rw [← eye]
  unfold_abbrev_sides
  after_results
  pointwise
  rfl

/-- The scoring matrix's column `8 + h`: head `h`'s column scoring vector on the head's own rows. -/
theorem V_v16_hi (c : Dev nD) (k : Fin 512) (h : Fin 8) :
    V m c main_v16 (ix2 k (⟨8 + h.val, by omega⟩ : Fin 16))
      = (if Spec.headOf k = h then 1 else 0) * A m c (Spec.headOf k) (Spec.hi (Spec.pos k)) := by
  rw [← eye]
  unfold_abbrev_sides
  after_results
  pointwise
  rfl

/-- The batch a grid point belongs to. -/
def batch (t : Fin cfg0.N) : Fin 2 := ⟨t.val / 4, by have h : t.val < 8 := lt_of_lt_of_eq t.isLt N_0; omega⟩

/-- The row of the whole array at row `r` of a grid point's block. -/
def row (t : Fin cfg0.N) (r : Fin 256) : Fin 1024 := ⟨256 * (t.val % 4) + r.val, by omega⟩

/-- The index maps of the five input windows. -/
theorem idx : ∀ t, win0_0.index t = ![t.val / 4, 0, 0] ∧ win0_1.index t = ![0, 0] ∧ win0_2.index t = ![0, 0]
    ∧ win0_3.index t = ![0, 0] ∧ win0_4.index t = ![t.val / 4, t.val % 4, 0] := by decide +kernel

theorem blk_x (c : Dev nD) (t : Fin cfg0.N) (n : Fin 1024) (k : Fin 512) :
    iblk m c 0 t (ix3 (0 : Fin 1) n k) = X m c (batch t) n k := by
  unfold X batch
  blk_ext [iblk, V, idx t]

theorem blk_adj (c : Dev nD) (t : Fin cfg0.N) (r : Fin 256) (j : Fin 1024) :
    iblk m c 4 t (ix3 (0 : Fin 1) r j) = Adj m c (batch t) (row t r) j := by
  unfold Adj batch row
  blk_ext [iblk, V, idx t]

theorem blk_w (c : Dev nD) (t : Fin cfg0.N) (k l : Fin 512) :
    iblk m c 1 t (ix2 k l) = W m c k l := by
  unfold W
  blk_ext [iblk, V, idx t]

theorem blk_b (c : Dev nD) (t : Fin cfg0.N) (l : Fin 512) :
    iblk m c 2 t (ix2 (0 : Fin 1) l) = Bias m c l := by
  rw [← V_v17]
  blk_ext [iblk, idx t]

theorem blk_a (c : Dev nD) (t : Fin cfg0.N) (k : Fin 512) (h : Fin 16) :
    iblk m c 3 t (ix2 k h) = V m c main_v16 (ix2 k h) := by
  blk_ext [iblk, idx t]

end Cert.Proof.Inputs

end
-- ==== Proof.Point.lean ====
/- What every grid point leaves, over the program's arguments.

   The first point of a batch computes the projected features and the two parts of every head's scores; the points after
   it find them unchanged. So at every point the three kept arrays hold their batch's values, and the point's output
   blocks are the layer's attention weights and outputs at its 256 rows. The attention weights need the scores to be real
   numbers: the kernel subtracts no maximum, the layer does. -/
module

public import proofs.«01_k».proof.Proof.BlockAt
public import proofs.«01_k».proof.Proof.Inputs

@[expose] public section

set_option maxRecDepth 16384

noncomputable section

namespace Cert.Proof.Point

open Cert.KernelIdeal Cert.KernelIdeal.Gen Idealize.ShloMosaic Idealize.ShloMosaic.TcCoe Idealize.SL.Sem
open Idealize.ShloMosaic.Tactic
open Cert.Proof.Block Cert.Proof.Inputs

section Payloads

variable (x : Vec Ideal S1x1024x512 .f32) (w : Vec Ideal S512x512 .f32) (b : Vec Ideal S1x512 .f32)
  (a : Vec Ideal S512x16 .f32)

/-- The projection of a feature block, read at a place. -/
theorem pay2_apply (n : Fin 1024) (k : Fin 512) :
    k0_pay2 x w b (ix2 n k) = ∑ c : Fin 512, x (ix3 (0 : Fin 1) n c) * w (ix2 k c) + b (ix2 (0 : Fin 1) k) := by
  pointwise [k0_pay2]

theorem pay3_apply (n : Fin 1024) (k : Fin 512) :
    k0_pay3 x w b (ix2 n k) = ∑ c : Fin 512, x (ix3 (0 : Fin 1) n c) * w (ix2 k c) + b (ix2 (0 : Fin 1) k) := by
  pointwise [k0_pay3, k0_pay2]

/-- The row scores of a feature block, read at a place. -/
theorem pay5_apply (n : Fin 1024) (h : Fin 8) :
    k0_pay5 x w b a (ix2 n h)
      = ∑ k : Fin 512, k0_pay2 x w b (ix2 n k) * a (ix2 k (⟨h.val, by omega⟩ : Fin 16)) := by
  pointwise [k0_pay5, k0_pay4]

/-- The column scores of a feature block, read at a place. -/
theorem pay6_apply (n : Fin 1024) (h : Fin 8) :
    k0_pay6 x w b a (ix2 h n)
      = ∑ k : Fin 512, k0_pay2 x w b (ix2 n k) * a (ix2 k (⟨8 + h.val, by omega⟩ : Fin 16)) := by
  pointwise [k0_pay6, k0_pay4]

/-- The mask of an adjacency block, read at a place: zero where the entry is 1, −∞ elsewhere. -/
theorem pay7_apply (adj : Vec Ideal S1x256x1024 .i32) (r : Fin 256) (j : Fin 1024) :
    k0_pay7 adj (ix2 r j) = if adj (ix3 (0 : Fin 1) r j) = 1#32 then (0 : EReal) else ⊥ := by
  have e : (Named.named κ "mask" 0xC2D20000#32 : Ideal .f32) = (⊥ : EReal) :=
    IdealRules.named_const.ideal_named_scalar _ _ _ _ rfl
  pointwise [k0_pay7]
  rw [e]
  unfold Scalar.select
  refine if_congr IntOp.cmpi_eq rfl rfl

end Payloads

variable (m : (ℓ : Loc nD τ sig) → Buf (Elt Ideal) ℓ) (c : Dev nD)

/-- The layer's projected features, over the program's arguments. -/
abbrev hid := Spec.hid (X m c) (W m c) (Bias m c)

/-- The row part of a head's score. -/
abbrev src := Spec.src (X m c) (W m c) (Bias m c) (A m c)

/-- The column part of a head's score. -/
abbrev dst := Spec.dst (X m c) (W m c) (Bias m c) (A m c)

/-- A head's score of a pair. -/
abbrev logit := Spec.logit (X m c) (W m c) (Bias m c) (A m c)

/-- The layer's attention weights. -/
abbrev atten := Spec.atten (X m c) (Adj m c) (W m c) (Bias m c) (A m c)

/-- The layer's output. -/
abbrev out := Spec.out (X m c) (Adj m c) (W m c) (Bias m c) (A m c)

/-- The projection of a point's feature block is its batch's. -/
theorem proj_eq (t : Fin cfg0.N) (n : Fin 1024) (k : Fin 512) :
    k0_pay2 (iblk m c 0 t) (iblk m c 1 t) (iblk m c 2 t) (ix2 n k) = hid m c (batch t) n k := by
  refine (pay2_apply _ _ _ n k).trans ?_
  simp only [blk_x, blk_w, blk_b]
  rfl

/-- The three kept arrays hold the values of batch `B`. -/
structure Holds (B : Fin 2)
    (s : Vec Ideal S1024x512 .f32 × Vec Ideal S1024x8 .f32 × Vec Ideal S8x1024 .f32) : Prop where
  feat : ∀ n k, s.1 (ix2 n k) = hid m c B n k
  er : ∀ n h, s.2.1 (ix2 n h) = src m c B n h
  ect : ∀ n h, s.2.2 (ix2 h n) = dst m c B n h

theorem feat_first (t : Fin cfg0.N) (h0 : t.val % 4 = 0) (n : Fin 1024) (k : Fin 512) :
    (outsAt0 m c t.val t.isLt).2.2.1 (ix2 n k) = hid m c (batch t) n k := by
  rw [feat_A m c t h0]
  refine (pay3_apply _ _ _ n k).trans ?_
  simp only [blk_x, blk_w, blk_b]
  rfl

theorem er_first (t : Fin cfg0.N) (h0 : t.val % 4 = 0) (n : Fin 1024) (h : Fin 8) :
    (outsAt0 m c t.val t.isLt).2.2.2.1 (ix2 n h) = src m c (batch t) n h := by
  rw [er_A m c t h0]
  refine (pay5_apply _ _ _ _ n h).trans ?_
  refine (Finset.sum_congr rfl fun k _ =>
    congrArg₂ (· * ·) (proj_eq m c t n k) ((blk_a m c t k _).trans (V_v16_lo m c k h))).trans ?_
  refine (Spec.sum_masked h _ _).trans ?_
  simp only [Spec.headOf_col, Spec.pos_col]
  rfl

theorem ect_first (t : Fin cfg0.N) (h0 : t.val % 4 = 0) (n : Fin 1024) (h : Fin 8) :
    (outsAt0 m c t.val t.isLt).2.2.2.2 (ix2 h n) = dst m c (batch t) n h := by
  rw [ect_A m c t h0]
  refine (pay6_apply _ _ _ _ n h).trans ?_
  refine (Finset.sum_congr rfl fun k _ =>
    congrArg₂ (· * ·) (proj_eq m c t n k) ((blk_a m c t k _).trans (V_v16_hi m c k h))).trans ?_
  refine (Spec.sum_masked h _ _).trans ?_
  simp only [Spec.headOf_col, Spec.pos_col]
  rfl

/-- They do after the first point of a batch. -/
theorem holds_A (t : Fin cfg0.N) (h0 : t.val % 4 = 0) : Holds m c (batch t) (outsAt0 m c t.val t.isLt).2.2 :=
  ⟨feat_first m c t h0, er_first m c t h0, ect_first m c t h0⟩

/-- They do after every point. -/
theorem holds : ∀ (n : ℕ) (hn : n < cfg0.N), Holds m c (batch ⟨n, hn⟩) (outsAt0 m c n hn).2.2
  | 0, hn => holds_A m c ⟨0, hn⟩ rfl
  | n + 1, hn => by
    by_cases h0 : (n + 1) % 4 = 0
    · exact holds_A m c ⟨n + 1, hn⟩ h0
    · have hb : batch ⟨n + 1, hn⟩ = batch ⟨n, Nat.lt_of_succ_lt hn⟩ := Fin.ext (by
        show (n + 1) / 4 = n / 4
        omega)
      rw [hb, kept_B m c ⟨n + 1, hn⟩ h0]
      exact holds n (Nat.lt_of_succ_lt hn)

/-- The block of attention weights after a point, over the arrays kept there. -/
theorem atten_point (t : Fin cfg0.N) :
    (outsAt0 m c t.val t.isLt).2.1 = attenBlock (grid0.coords t) (k0_pay7 (iblk m c 4 t))
      (outsAt0 m c t.val t.isLt).2.2.2.1 (outsAt0 m c t.val t.isLt).2.2.2.2 := by
  by_cases h0 : t.val % 4 = 0
  · rw [atten_A m c t h0, er_A m c t h0, ect_A m c t h0]
  · rw [atten_B m c t h0, kept_B m c t h0]

/-- The block of outputs after a point, over the arrays kept there. -/
theorem out_point (t : Fin cfg0.N) :
    (outsAt0 m c t.val t.isLt).1 = outBlock (grid0.coords t) (k0_pay7 (iblk m c 4 t))
      (outsAt0 m c t.val t.isLt).2.2.1
      (outsAt0 m c t.val t.isLt).2.2.2.1 (outsAt0 m c t.val t.isLt).2.2.2.2 := by
  by_cases h0 : t.val % 4 = 0
  · rw [out_A m c t h0, feat_A m c t h0, er_A m c t h0, ect_A m c t h0]
  · rw [out_B m c t h0, kept_B m c t h0]

/-- Row `r` of a point's block by its grid coordinates and by its position. -/
theorem rowAt_eq (t : Fin cfg0.N) (r : Fin 256) : rowAt (grid0.coords t) r = row t r := by
  have h : ∀ t : Fin cfg0.N, ((grid0.coords t) 1).val = t.val % 4 := by decide +kernel
  exact Fin.ext (by show 256 * ((grid0.coords t) 1).val + r.val = 256 * (t.val % 4) + r.val; rw [h])

/-- A head's attention weights at a point are the layer's, where the scores are real numbers. -/
theorem probs_eq (L : Fin 2 → Fin 8 → Fin 1024 → Fin 1024 → ℝ) (hL : ∀ B h i j, logit m c B h i j = (L B h i j : EReal))
    (t : Fin cfg0.N) (h : Fin 8) (r : Fin 256) (j : Fin 1024) :
    probs (grid0.coords t) (k0_pay7 (iblk m c 4 t)) (outsAt0 m c t.val t.isLt).2.2.2.1
      (outsAt0 m c t.val t.isLt).2.2.2.2 h (ix2 r j) = atten m c (batch t) h (row t r) j := by
  have hk := holds m c t.val t.isLt
  have he : ∀ j, expo (grid0.coords t) (k0_pay7 (iblk m c 4 t)) (outsAt0 m c t.val t.isLt).2.2.2.1
      (outsAt0 m c t.val t.isLt).2.2.2.2 h r j
      = Softmax.weight (L (batch t) h (row t r)) (fun j => Adj m c (batch t) (row t r) j = 1#32) j := by
    intro j
    unfold expo Softmax.weight
    rw [rowAt_eq, hk.er, hk.ect, pay7_apply, blk_adj, Softmax.ofBits_slope]
    have := hL (batch t) h (row t r) j
    unfold logit Spec.logit at this
    rw [this]
  rw [probs_apply]
  simp only [he]
  rw [Softmax.row_eq]
  unfold atten Spec.atten Spec.masked Softmax.top Softmax.masked
  simp only [hL]

/-- The block of attention weights after a point, read at a place. -/
theorem atten_at (L : Fin 2 → Fin 8 → Fin 1024 → Fin 1024 → ℝ) (hL : ∀ B h i j, logit m c B h i j = (L B h i j : EReal))
    (t : Fin cfg0.N) (h : Fin 8) (r : Fin 256) (j : Fin 1024) :
    (outsAt0 m c t.val t.isLt).2.1 (ix4 (0 : Fin 1) h r j) = atten m c (batch t) h (row t r) j := by
  rw [atten_point, attenBlock_apply]
  exact probs_eq m c L hL t h r j

/-- The block of outputs after a point, read at a place. -/
theorem out_at (L : Fin 2 → Fin 8 → Fin 1024 → Fin 1024 → ℝ) (hL : ∀ B h i j, logit m c B h i j = (L B h i j : EReal))
    (t : Fin cfg0.N) (r : Fin 256) (l : Fin 512) :
    (outsAt0 m c t.val t.isLt).1 (ix3 (0 : Fin 1) r l) = out m c (batch t) (row t r) l := by
  rw [out_point, outBlock_apply]
  exact Finset.sum_congr rfl fun j _ =>
    congrArg₂ (· * ·) (probs_eq m c L hL t _ r j) ((holds m c t.val t.isLt).feat j l)

end Cert.Proof.Point

end
-- ==== Proof.Arrays.lean ====
/- What the kernel's two result arrays hold after the run: the layer's output and attention weights at every place. -/
module

public import proofs.«01_k».proof.Proof.Point

@[expose] public section

set_option maxRecDepth 16384

noncomputable section

namespace Cert.Proof.Arrays

open Cert.KernelIdeal Cert.KernelIdeal.Gen Idealize.ShloMosaic Idealize.ShloMosaic.TcCoe Idealize.SL.Sem
open Cert.Proof.Inputs Cert.Proof.Point
open Cert.KernelIdeal.Value (G5 G6 pt5Of loc5Of pt6Of loc6Of)

variable (m : (ℓ : Loc nD τ sig) → Buf (Elt Ideal) ℓ) (c : Dev nD)
  (L : Fin 2 → Fin 8 → Fin 1024 → Fin 1024 → ℝ) (hL : ∀ B h i j, logit m c B h i j = (L B h i j : EReal))

include hL

/-- The first result array holds the layer's output. -/
theorem G5_apply (B : Fin 2) (i : Fin 1024) (l : Fin 512) : G5 m c (ix3 B i l) = out m c B i l := by
  have e : pt5Of (ix3 B i l) = 4 * B.val + i.val / 256 := by
    show 4 * (B.val / 1 - 0) + 1 * (i.val / 256 - 0) + 1 * (l.val / 512 - 0) = _
    omega
  have hp : pt5Of (ix3 B i l) < cfg0.N := by rw [e, show cfg0.N = 8 from N_0]; omega
  have hl : loc5Of (ix3 B i l) = ix3 (0 : Fin 1) (⟨i.val % 256, by omega⟩ : Fin 256) l := funext fun
    | ⟨0, _⟩ => Fin.ext (by show B.val % 1 = 0; omega)
    | ⟨1, _⟩ => rfl
    | ⟨2, _⟩ => Fin.ext (by show l.val % 512 = l.val; omega)
  unfold G5
  rw [dif_pos hp, ← Value.outsAt0_sweep m c _ hp, hl]
  refine (out_at m c L hL ⟨_, hp⟩ _ l).trans (congrArg₂ (fun B i => out m c B i l) (Fin.ext ?_) (Fin.ext ?_))
  · show pt5Of (ix3 B i l) / 4 = B.val
    omega
  · show 256 * (pt5Of (ix3 B i l) % 4) + i.val % 256 = i.val
    omega

/-- The second result array holds the layer's attention weights. -/
theorem G6_apply (B : Fin 2) (h : Fin 8) (i j : Fin 1024) : G6 m c (ix4 B h i j) = atten m c B h i j := by
  have e : pt6Of (ix4 B h i j) = 4 * B.val + i.val / 256 := by
    show 4 * (B.val / 1 - 0) + 4 * (h.val / 8 - 0) + 1 * (i.val / 256 - 0) + 1 * (j.val / 1024 - 0) = _
    omega
  have hp : pt6Of (ix4 B h i j) < cfg0.N := by rw [e, show cfg0.N = 8 from N_0]; omega
  have hl : loc6Of (ix4 B h i j) = ix4 (0 : Fin 1) h (⟨i.val % 256, by omega⟩ : Fin 256) j := funext fun
    | ⟨0, _⟩ => Fin.ext (by show B.val % 1 = 0; omega)
    | ⟨1, _⟩ => Fin.ext (by show h.val % 8 = h.val; omega)
    | ⟨2, _⟩ => rfl
    | ⟨3, _⟩ => Fin.ext (by show j.val % 1024 = j.val; omega)
  unfold G6
  rw [dif_pos hp, ← Value.outsAt0_sweep m c _ hp, hl]
  refine (atten_at m c L hL ⟨_, hp⟩ h _ j).trans (congrArg₂ (fun B i => atten m c B h i j) (Fin.ext ?_) (Fin.ext ?_))
  · show pt6Of (ix4 B h i j) / 4 = B.val
    omega
  · show 256 * (pt6Of (ix4 B h i j) % 4) + i.val % 256 = i.val
    omega

end Cert.Proof.Arrays

end
-- ==== Proof.Finite.lean ====
/- Finite arguments have finite scores.

   The precondition tests that every entry of the four float arguments is below +∞ in absolute value. Read back, each
   such entry is a real number, and sums of products of reals are real, so every score the attention sees is one. -/
module

public import proofs.«01_k».proof.Pre_finite
public import proofs.«01_k».proof.Proof.Point
public import Idealize.ShloMosaic.Lib.ReduceAll
public import Idealize.ShloMosaic.PureOps.Ideal.Laws

@[expose] public section

set_option maxRecDepth 16384

noncomputable section

namespace Cert.Proof.Finite

open Idealize.ShloMosaic

/-- The shape relations the precondition's operations take. -/
theorem facts : Cert.Pre_finite.Facts where
  bcast_S_S2x1024x512 := by decide
  reducesTo_S2x1024x512_S_d0_1_2 := by decide
  h_S_ := by decide
  bcast_S_S512x512 := by decide
  reducesTo_S512x512_S_d0_1 := by decide
  bcast_S_S512 := by decide
  reducesTo_S512_S_d0 := by decide
  bcast_S_S8x128 := by decide
  reducesTo_S8x128_S_d0_1 := by decide

/-- An extended real that is a real number. -/
def IsReal (v : EReal) : Prop := ∃ r : ℝ, v = (r : EReal)

theorem IsReal.add {u v : EReal} : IsReal u → IsReal v → IsReal (u + v)
  | ⟨r, hr⟩, ⟨s, hs⟩ => ⟨r + s, by rw [hr, hs, EReal.coe_add]⟩

theorem IsReal.mul {u v : EReal} : IsReal u → IsReal v → IsReal (u * v)
  | ⟨r, hr⟩, ⟨s, hs⟩ => ⟨r * s, by rw [hr, hs, EReal.coe_mul]⟩

/-- A finite sum of reals is real. -/
theorem IsReal.sum {ι : Type} [Fintype ι] (f : ι → EReal) (h : ∀ i, IsReal (f i)) : IsReal (∑ i, f i) := by
  choose g hg using h
  exact ⟨∑ i, g i, (Finset.sum_congr rfl fun i _ => hg i).trans (Softmax.coe_sum g)⟩

/-- A value whose absolute value tests below +∞ is real. -/
theorem real_of_lt (v : Ideal .f32)
    (h : FloatOps.cmpf .olt (FloatOps.absf v) (Scalar.ofBits (F := Ideal) .f32 0x7F800000#32) = 1#1) : IsReal v := by
  have h' : max (v : EReal) (-v) < ⊤ := by
    rw [← Softmax.ofBits_pos_inf]
    by_contra hn
    have h0 : BitVec.ofBool (decide (max (v : EReal) (-v) < Ideal.ofBits .f32 0x7F800000#32)) = 1#1 := h
    rw [decide_eq_false hn] at h0
    exact absurd h0 (by decide)
  have h1 : (v : EReal) ≠ ⊤ := fun e => by rw [e] at h'; simp at h'
  have h2 : (v : EReal) ≠ ⊥ := fun e => by rw [e] at h'; simp at h'
  exact ⟨EReal.toReal v, (EReal.coe_toReal h1 h2).symm⟩

instance : Subsingleton Cert.Pre_finite.S_.Idx := ⟨fun _ _ => funext fun k => Fin.elim0 k⟩

/-- One argument's test, read back: every entry is real. -/
theorem real_of_all {s : Shape} {axes : List (Fin s.rank)} (x : FVec Ideal s .f32)
    (hb : Cert.Pre_finite.S_.BroadcastsInDim s (![] : Fin 0 → Fin s.rank)) (hr : s.ReducesTo axes Cert.Pre_finite.S_)
    (hu : 0 < Cert.Pre_finite.S_.numel) (j : Cert.Pre_finite.S_.Idx)
    (e : Host.reduce IntOp.andi (cmpf .olt (Host.absf x)
      (broadcastInDim s ![] hb (constant (F := Ideal) Cert.Pre_finite.S_ .f32 0x7F800000#32)))
      (constantI Cert.Pre_finite.S_ 1 1#1) hr hu j = 1#1) (i : s.Idx) : IsReal (x i) :=
  real_of_lt (x i) (Host.reduce_andi_all _ _ hr hu j e i)

/-- The precondition, read back: every entry of every float argument is real. -/
theorem real_args [h : Cert.Pre_finite.Facts] (x0 : FVec Ideal Cert.Pre_finite.S2x1024x512 .f32)
    (x1 : IVec Cert.Pre_finite.S2x1024x1024 32) (x2 : FVec Ideal Cert.Pre_finite.S512x512 .f32)
    (x3 : FVec Ideal Cert.Pre_finite.S512 .f32) (x4 : FVec Ideal Cert.Pre_finite.S8x128 .f32)
    (e : Cert.Pre_finite.fn x0 x1 x2 x3 x4 = fun _ => 1#1) :
    (∀ i, IsReal (x0 i)) ∧ (∀ i, IsReal (x2 i)) ∧ (∀ i, IsReal (x3 i)) ∧ ∀ i, IsReal (x4 i) := by
  have e0 := congrFun e (fun k => Fin.elim0 k)
  obtain ⟨e1, h4⟩ := IntOp.andi_eq_one.1 e0
  obtain ⟨e2, h3⟩ := IntOp.andi_eq_one.1 e1
  obtain ⟨h1, h2⟩ := IntOp.andi_eq_one.1 e2
  exact ⟨real_of_all x0 _ _ _ _ h1, real_of_all x2 _ _ _ _ h2, real_of_all x3 _ _ _ _ h3, real_of_all x4 _ _ _ _ h4⟩

/-- With real arguments every score is real. -/
theorem real_logit (x : Fin 2 → Fin 1024 → Fin 512 → EReal) (w : Fin 512 → Fin 512 → EReal) (b : Fin 512 → EReal)
    (a : Fin 8 → Fin 128 → EReal) (hx : ∀ B n k, IsReal (x B n k)) (hw : ∀ k c, IsReal (w k c)) (hb : ∀ k, IsReal (b k))
    (ha : ∀ h d, IsReal (a h d)) (B : Fin 2) (h : Fin 8) (i j : Fin 1024) : IsReal (Spec.logit x w b a B h i j) := by
  have hh : ∀ n k, IsReal (Spec.hid x w b B n k) := fun n k =>
    (IsReal.sum _ fun c => (hx B n c).mul (hw k c)).add (hb k)
  exact (IsReal.sum _ fun d => (ha h _).mul (hh i _)).add (IsReal.sum _ fun d => (ha h _).mul (hh j _))

end Cert.Proof.Finite

end
-- ==== Proof.Reference.lean ====
/- What the reference computes, read stage by stage at a place: the projection, the two parts of the scores, the masked
   scores, their softmax, and the weighted sum. -/
module

public import proofs.«01_k».proof.Proof.Gen.ReferenceIdeal.Read
public import proofs.«01_k».proof.Proof.Spec
public import Idealize.ShloMosaic.Lib.Pointwise

@[expose] public section

set_option maxRecDepth 16384

noncomputable section

namespace Cert.Proof.Reference

open Cert.ReferenceIdeal Cert.ReferenceIdeal.Read Idealize.ShloMosaic Idealize.ShloMosaic.TcCoe Idealize.SL.Sem
open Cert.ReferenceIdeal.Gen
open Idealize.ShloMosaic.Tactic

variable (x0 : Vec Ideal S2x1024x512 .f32) (x1 : Vec Ideal S2x1024x1024 .i32) (x2 : Vec Ideal S512x512 .f32)
  (x3 : Vec Ideal S512 .f32) (x4 : Vec Ideal S8x128 .f32)

/-- The node features as a function of batch, node and channel. -/
abbrev X (B : Fin 2) (n : Fin 1024) (k : Fin 512) : EReal := x0 (ix3 B n k)
/-- The adjacency matrix as a function of batch and pair. -/
abbrev Adj (B : Fin 2) (i j : Fin 1024) : BitVec 32 := x1 (ix3 B i j)
/-- The weights as a function of two channels. -/
abbrev W (k l : Fin 512) : EReal := x2 (ix2 k l)
/-- The bias as a function of the channel. -/
abbrev Bias (k : Fin 512) : EReal := x3 (ix1 k)
/-- The scoring vectors as a function of head and place. -/
abbrev A (h : Fin 8) (d : Fin 128) : EReal := x4 (ix2 h d)

/-- The projected features. -/
theorem v4_apply (B : Fin 2) (n : Fin 1024) (k : Fin 512) :
    val_main_v4 x0 x2 x3 (ix3 B n k) = Spec.hid (X x0) (W x2) (Bias x3) B n k := by
  pointwise [val_main_v4, val_main_v3, val_main_v2, val_main_v1, val_main_v0]
  rfl

/-- The projected features by head. -/
theorem v5_apply (B : Fin 2) (n : Fin 1024) (h : Fin 8) (d : Fin 64) :
    val_main_v5 x0 x2 x3 (ix4 B n h d) = Spec.hid (X x0) (W x2) (Bias x3) B n (Spec.col h d) := by
  rw [← v4_apply]
  pointwise [val_main_v5]
  refine congrArg (fun k => val_main_v4 x0 x2 x3 (ix3 B n k)) (Fin.ext ?_)
  show h.val * 64 + d.val = 64 * h.val + d.val
  omega

/-- The row part of the scores. -/
theorem v9_apply (B : Fin 2) (n : Fin 1024) (h : Fin 8) :
    val_main_v9 x0 x2 x3 x4 (ix3 B n h) = Spec.src (X x0) (W x2) (Bias x3) (A x4) B n h := by
  pointwise [val_main_v9, val_main_v8, val_main_v6]
  simp only [v5_apply]
  rfl

/-- The column part of the scores. -/
theorem v11_apply (B : Fin 2) (n : Fin 1024) (h : Fin 8) :
    val_main_v11 x0 x2 x3 x4 (ix3 B n h) = Spec.dst (X x0) (W x2) (Bias x3) (A x4) B n h := by
  pointwise [val_main_v11, val_main_v10, val_main_v7]
  simp only [v5_apply]
  rfl

/-- The scores of the pairs. -/
theorem v16_apply (B : Fin 2) (i j : Fin 1024) (h : Fin 8) :
    val_main_v16 x0 x2 x3 x4 (ix4 B i j h) = Spec.logit (X x0) (W x2) (Bias x3) (A x4) B h i j := by
  pointwise [val_main_v16, val_main_v15, val_main_v14, val_main_v13, val_main_v12]
  rw [v9_apply, v11_apply]
  rfl

/-- The masked scores. -/
theorem v21_apply (B : Fin 2) (i j : Fin 1024) (h : Fin 8) :
    val_main_v21 x0 x1 x2 x3 x4 (ix4 B i j h) = Spec.masked (X x0) (Adj x1) (W x2) (Bias x3) (A x4) B h i j := by
  pointwise [val_main_v21, val_main_v20, val_main_v19, val_main_v18, val_main_v17, val_main_call0_v0, val_main_call0_v1,
    val_main_call0_v2, val_main_call0_v3, val_main_call0_v4, val_main_call1_v0, val_main_call1_v1, val_main_cst,
    val_main_cst_0, val_main_c, val_main_call0_cst]
  rw [v16_apply, Softmax.ofBits_neg_inf]
  unfold Scalar.select Spec.masked
  refine if_congr IntOp.cmpi_eq ?_ rfl
  rw [← Softmax.ofBits_slope]
  rfl

/-- A maximum along the third of four axes, from −∞. -/
theorem reduce_max_apply (y : Vec Ideal S2x1024x1024x8 .f32) (B : Fin 2) (i : Fin 1024) (h : Fin 8) :
    (Host.reduce (FloatOps.maximumf (F := Ideal) (φ := .f32)) y (val_main_cst_1 (F := Ideal)) reducesTo_S2x1024x1024x8_S2x1024x8_d2 h_S_ :
        Vec Ideal S2x1024x8 .f32) (ix3 B i h)
      = Finset.univ.fold max (⊥ : EReal) fun j : Fin 1024 => y (ix4 B i j h) := by
  rw [← Softmax.ofBits_neg_inf]
  pointwise [val_main_cst_1]

/-- The maximum of a row of masked scores. -/
theorem v24_apply (B : Fin 2) (i : Fin 1024) (h : Fin 8) :
    val_main_v24 x0 x1 x2 x3 x4 (ix3 B i h)
      = Finset.univ.fold max (⊥ : EReal) (Spec.masked (X x0) (Adj x1) (W x2) (Bias x3) (A x4) B h i) := by
  have e : val_main_v22 x0 x1 x2 x3 x4 (ix3 B i h)
      = Finset.univ.fold max (⊥ : EReal) (Spec.masked (X x0) (Adj x1) (W x2) (Bias x3) (A x4) B h i) := by
    unfold val_main_v22
    refine (reduce_max_apply _ B i h).trans ?_
    simp only [v21_apply]
  have e' : val_main_v23 (F := Ideal) (ix3 B i h) = (⊥ : EReal) := by
    rw [← Softmax.ofBits_neg_inf]
    pointwise [val_main_v23, val_main_cst_2]
  rw [val_main_v24_apply, e, e']
  exact max_bot_left _

/-- The attention weights, head last. -/
theorem v32_apply (B : Fin 2) (i j : Fin 1024) (h : Fin 8) :
    val_main_v32 x0 x1 x2 x3 x4 (ix4 B i j h) = Spec.atten (X x0) (Adj x1) (W x2) (Bias x3) (A x4) B h i j := by
  pointwise [val_main_v32, val_main_v31, val_main_v30, val_main_v29, val_main_v28, val_main_v27, val_main_v26,
    val_main_v25, val_main_cst_3]
  simp only [v21_apply, v24_apply]
  rfl

/-- The attention weights as the reference returns them. -/
theorem v33_apply (B : Fin 2) (h : Fin 8) (i j : Fin 1024) :
    val_main_v33 x0 x1 x2 x3 x4 (ix4 B h i j) = Spec.atten (X x0) (Adj x1) (W x2) (Bias x3) (A x4) B h i j := by
  rw [← v32_apply]
  pointwise [val_main_v33]

/-- The output as the reference returns it. -/
theorem v36_apply (B : Fin 2) (i : Fin 1024) (l : Fin 512) :
    val_main_v36 x0 x1 x2 x3 x4 (ix3 B i l) = Spec.out (X x0) (Adj x1) (W x2) (Bias x3) (A x4) B i l := by
  pointwise [val_main_v36, val_main_v35, val_main_v34]
  refine Finset.sum_congr rfl fun j _ => (mul_comm _ _).trans (congrArg₂ (· * ·) ?_ ?_)
  · exact v32_apply x0 x1 x2 x3 x4 B i j (Spec.headOf l)
  · refine (v5_apply x0 x2 x3 B j (Spec.headOf l) (Spec.pos l)).trans ?_
    rw [Spec.col_pos]

end Cert.Proof.Reference

end
-- ==== Proof.Equation.lean ====
/- The two programs' results are equal: the arrays the kernel leaves and the reference's terms, entry by entry, are the
   layer's output and its attention weights. -/
module

public import proofs.«01_k».proof.Defs
public import proofs.«01_k».proof.Proof.Arrays
public import proofs.«01_k».proof.Proof.Finite
public import proofs.«01_k».proof.Proof.Reference

@[expose] public section

set_option maxRecDepth 16384

noncomputable section

namespace Cert.Proof.Equation

open Idealize.ShloMosaic Idealize.ShloMosaic.TcCoe Idealize.SL.Sem
open Cert.KernelIdeal (nD τ sig main_arg0 main_arg1 main_arg2 main_arg3 main_arg4)
open Cert.KernelIdeal.Value (G5 G6)

variable (m : (ℓ : Loc nD τ sig) → Buf (Elt Ideal) ℓ)

/-- Under the precondition the scores are real numbers. -/
theorem exists_scores [Cert.Pre_finite.Facts] (h : Cert.Pre_KernelIdeal_finite m) (c : Dev nD) :
    ∃ L : Fin 2 → Fin 8 → Fin 1024 → Fin 1024 → ℝ, ∀ B h i j, Point.logit m c B h i j = (L B h i j : EReal) := by
  obtain ⟨h0, h2, h3, h4⟩ := Finite.real_args _ _ _ _ _ (h c)
  have hl : ∀ B h i j, Finite.IsReal (Point.logit m c B h i j) :=
    Finite.real_logit _ _ _ _ (fun _ _ _ => h0 _) (fun _ _ => h2 _) (fun _ => h3 _) (fun _ _ => h4 _)
  choose L hL using hl
  exact ⟨L, hL⟩

/-- The reference's output, of the kernel's arguments, is the array the kernel leaves as its first result. -/
theorem out_eq [Cert.Pre_finite.Facts] (h : Cert.Pre_KernelIdeal_finite m) (c : Dev nD) :
    Cert.ReferenceIdeal.Read.val_main_v36 (F := Ideal) (m ((c : Thread nD τ).loc main_arg0))
      (m ((c : Thread nD τ).loc main_arg1)) (m ((c : Thread nD τ).loc main_arg2))
      (m ((c : Thread nD τ).loc main_arg3)) (m ((c : Thread nD τ).loc main_arg4)) = G5 m c := by
  obtain ⟨L, hL⟩ := exists_scores m h c
  funext t
  obtain ⟨B, i, l, rfl⟩ : ∃ (B : Fin 2) (i : Fin 1024) (l : Fin 512), t = ix3 B i l :=
    ⟨t 0, t 1, t 2, funext fun | ⟨0, _⟩ => rfl | ⟨1, _⟩ => rfl | ⟨2, _⟩ => rfl⟩
  exact (Reference.v36_apply _ _ _ _ _ B i l).trans (Arrays.G5_apply m c L hL B i l).symm

/-- The reference's attention weights, of the kernel's arguments, are the array the kernel leaves as its second
    result. -/
theorem atten_eq [Cert.Pre_finite.Facts] (h : Cert.Pre_KernelIdeal_finite m) (c : Dev nD) :
    Cert.ReferenceIdeal.Read.val_main_v33 (F := Ideal) (m ((c : Thread nD τ).loc main_arg0))
      (m ((c : Thread nD τ).loc main_arg1)) (m ((c : Thread nD τ).loc main_arg2))
      (m ((c : Thread nD τ).loc main_arg3)) (m ((c : Thread nD τ).loc main_arg4)) = G6 m c := by
  obtain ⟨L, hL⟩ := exists_scores m h c
  funext t
  obtain ⟨B, a, i, j, rfl⟩ : ∃ (B : Fin 2) (a : Fin 8) (i j : Fin 1024), t = ix4 B a i j :=
    ⟨t 0, t 1, t 2, t 3, funext fun | ⟨0, _⟩ => rfl | ⟨1, _⟩ => rfl | ⟨2, _⟩ => rfl | ⟨3, _⟩ => rfl⟩
  exact (Reference.v33_apply _ _ _ _ _ B a i j).trans (Arrays.G6_apply m c L hL B a i j).symm

end Cert.Proof.Equation

end
-- ==== Proof.lean ====
/- The five claims: the three programs' frames, the idealization of the kernel, and the equality of its two results with
   the reference's. The equation is Proof/Equation.lean; here the runs are put together with it. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Equation
public import Idealize.ShloMosaic.Adequacy
public import Idealize.ShloMosaic.Init

@[expose] public section

noncomputable section

namespace Cert.Proof

open Idealize.ShloMosaic Idealize.SL.Sem

/-- The ideal reference terminates from any memory, with its arguments unchanged and every counter at zero: it is host
    operations alone, and has no semaphore. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0) = m (c.tc.loc Cert.ReferenceIdeal.main_arg0)
        ∧ r.2.mem ((c.tc : Thread Cert.ReferenceIdeal.nD Cert.ReferenceIdeal.τ).loc Cert.ReferenceIdeal.main_arg1) = m (c.tc.loc Cert.ReferenceIdeal.main_arg1)
        ∧ r.2.mem ((c.tc : Thread Cert.ReferenceIdeal.nD Cert.ReferenceIdeal.τ).loc Cert.ReferenceIdeal.main_arg2) = m (c.tc.loc Cert.ReferenceIdeal.main_arg2)
        ∧ r.2.mem ((c.tc : Thread Cert.ReferenceIdeal.nD Cert.ReferenceIdeal.τ).loc Cert.ReferenceIdeal.main_arg3) = m (c.tc.loc Cert.ReferenceIdeal.main_arg3)
        ∧ r.2.mem ((c.tc : Thread Cert.ReferenceIdeal.nD Cert.ReferenceIdeal.τ).loc Cert.ReferenceIdeal.main_arg4) = m (c.tc.loc Cert.ReferenceIdeal.main_arg4))
        ∧ r.2.sem = fun _ => 0) :=
  (θ_run Cert.ReferenceIdeal.defs _ _).mono (fun r h => ⟨fun c => (h c).2.2, sem_eq_zero_of_no_sems (by decide) r.2⟩)
    (Cert.ReferenceIdeal.Value.run (F := Ideal) m g)

/-- The ideal kernel and the ideal reference, from the same finite arguments, leave the same two arrays. -/
theorem same_results :
    Cert.algebraic_KernelIdeal_ReferenceIdeal_pre_finite (hKernelIdeal := Cert.KernelIdeal.Gen.facts)
      (hReferenceIdeal := Cert.ReferenceIdeal.Gen.facts) (hPre_finite := Finite.facts) := by
  intro m g m' g' hpre hargs
  haveI := Finite.facts
  refine ⟨fun c => Cert.KernelIdeal.Value.G5 m c, fun c => Cert.KernelIdeal.Value.G6 m c,
    Cert.KernelIdeal.Value.run m g, ?_⟩
  refine (θ_run Cert.ReferenceIdeal.defs _ _).mono (fun r h c => ⟨?_, ?_, (h c).2.2⟩)
    (Cert.ReferenceIdeal.Value.run (F := Ideal) m' g')
  · obtain ⟨e0, e1, e2, e3, e4⟩ := hargs c
    refine (h c).1.trans ((Cert.ReferenceIdeal.Read.val_main_v36_eq m' c).trans ?_)
    rw [e0, e1, e2, e3, e4]
    exact Equation.out_eq m hpre c
  · obtain ⟨e0, e1, e2, e3, e4⟩ := hargs c
    refine (h c).2.1.trans ((Cert.ReferenceIdeal.Read.val_main_v33_eq m' c).trans ?_)
    rw [e0, e1, e2, e3, e4]
    exact Equation.atten_eq m hpre c

/-- Everything the certificate claims. -/
theorem claim : Cert.Claim :=
  ⟨Cert.Kernel.Gen.facts, Cert.KernelIdeal.Gen.facts, Cert.ReferenceIdeal.Gen.facts, Finite.facts,
    fun m g _ => Cert.Kernel.Gen.frame m g, fun m g _ => Cert.KernelIdeal.Gen.frame m g,
    fun m g _ => Cert.KernelIdeal.Gen.frame m g, fun m g _ => frame_reference m g, fun m g _ => frame_reference m g,
    IdealRules.named_const.statement Cert.KernelIdeal.κ "mask" .f32 0xC2D20000#32 ⊥ rfl, same_results⟩

end Cert.Proof

end
